-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Reference (m : (ℓ : Loc Cert.Reference.nD Cert.Reference.τ Cert.Reference.sig) → Buf (Elt Bits) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_arg0) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1))

def Claim : Prop :=
  ∃ (hKernel : Cert.Kernel.Facts) (hKernelIdeal : Cert.KernelIdeal.Facts) (hReference : Cert.Reference.Facts) (hReferenceIdeal : Cert.ReferenceIdeal.Facts),
    quiescent_Kernel (hKernel := hKernel)
    ∧ quiescent_KernelIdeal (hKernelIdeal := hKernelIdeal)
    ∧ quiescent_Reference (hReference := hReference)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x8x512 : Shape := ⟨3, ![2048, 8, 512]⟩
abbrev S_ : Shape := ⟨0, ![]⟩
abbrev S256x8x512 : Shape := ⟨3, ![256, 8, 512]⟩

abbrev nBuf : Space → Nat
  | .hbm => 3
  | .vmem => 4
  | .smem => 0
  | _ => 0

abbrev bufTy : (tb : Table) → Fin (tcTables nBuf tb) → BufTy
  | .hbm, ⟨0, _⟩ => ⟨S2048x8x512, .f32⟩
  | .hbm, ⟨1, _⟩ => ⟨S_, .i32⟩
  | .hbm, ⟨2, _⟩ => ⟨S2048x8x512, .f32⟩
  | .local _ .vmem, ⟨0, _⟩ => ⟨S256x8x512, .f32⟩
  | .local _ .vmem, ⟨1, _⟩ => ⟨S256x8x512, .f32⟩
  | .local _ .vmem, ⟨2, _⟩ => ⟨S256x8x512, .f32⟩
  | .local _ .vmem, ⟨3, _⟩ => ⟨S256x8x512, .f32⟩
  | _, _ => ⟨S2048x8x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x8x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference.lean ====
abbrev S2048x8x512 : Shape := ⟨3, ![2048, 8, 512]⟩
abbrev S_ : Shape := ⟨0, ![]⟩

abbrev nBuf : Space → Nat
  | .hbm => 2
  | .vmem => 0
  | .smem => 0
  | _ => 0

abbrev bufTy : (tb : Table) → Fin (tcTables nBuf tb) → BufTy
  | .hbm, ⟨0, _⟩ => ⟨S2048x8x512, .f32⟩
  | .hbm, ⟨1, _⟩ => ⟨S_, .i32⟩
  | _, _ => ⟨S2048x8x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩

abbrev nD : Nat := 1
abbrev τ : Topo := Topo.v7x

variable {F : FTy → Type} [FloatOps F]
-- ==== Proof.Values.Ideal.lean ====
/- What the tiled copy leaves in its result, for the idealized program (read at any float instance;
   the certificate uses it at the extended reals): the argument `x`, element by element. -/
module

public import proofs.«01_k».proof.Proof.Gen.KernelIdeal.Value
public import Idealize.ShloMosaic.Lib.Pipeline.ValueKit

@[expose] public section

noncomputable section

namespace Cert.Proof.TiledIdeal

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ) (ρ : Dev nD → PrngReg)

/-- One grid point: the body leaves in the output's staging buffer the input block it was given. -/
theorem body_copies (x : Vec F S256x8x512 .f32) : out0_1 x = x := by
  unfold out0_1
  frame_out

/-- The whole array: the eight blocks tile the result, and the input's block at a point lies where the
    output's block does, so the result is the argument. -/
theorem result_eq (c : Dev nD) :
    (dats m 0 c).arrAt 1 cfg0.N = m ((c : Thread nD τ).loc main_arg0) := by
  refine (dats m 0 c).arrAt_eq_of_covers 1 _ (by decide +kernel) fun t hf y => ?_
  blk_simp
  rw [after0_1, body_copies]
  blk_simp [iblk]
  rfl

/-- The run: it ends with the result equal to the argument `x` and both arguments as they were. -/
theorem run : θ_run defs (onTc (τ := τ) (main (F := F))) ⟨m, fun _ => 0, ρ⟩ fun r => ∀ c : Dev nD,
      r.2.mem ((c : Thread nD τ).loc main_v0) = m ((c : Thread nD τ).loc main_arg0)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (result_eq m c), (h c).2⟩) (Value.run_blocks m ρ)

end Cert.Proof.TiledIdeal

end
-- ==== Proof.lean ====
module

public import proofs.«01_k».proof.Defs
public import proofs.«01_k».proof.Proof.Gen.Kernel
public import proofs.«01_k».proof.Proof.Gen.Kernel.Frame
public import proofs.«01_k».proof.Proof.Gen.Kernel.Value
public import proofs.«01_k».proof.Proof.Gen.KernelIdeal
public import proofs.«01_k».proof.Proof.Gen.KernelIdeal.Frame
public import proofs.«01_k».proof.Proof.Gen.KernelIdeal.Value
public import proofs.«01_k».proof.Proof.Gen.Reference
public import proofs.«01_k».proof.Proof.Gen.ReferenceIdeal
public import proofs.«01_k».proof.Proof.Values.Bits
public import proofs.«01_k».proof.Proof.Values.Ideal
public import Idealize.ShloMosaic.Lib.Claim
public import Idealize.ShloMosaic.Lib.Quiescent

@[expose] public section

noncomputable section

namespace Cert.Proof

open Idealize.ShloMosaic Idealize.SL.Sem

/-- The identity terminates, writes nothing and leaves every counter at zero, on words. -/
theorem frame_reference : Cert.quiescent_Reference := by
  intro m g _
  hlo_run
  · exact fun _ => ⟨trivial, trivial⟩
  · exact sem_eq_zero_of_no_sems (by decide) _

/-- The identity terminates, writes nothing and leaves every counter at zero, over the extended reals. -/
theorem frame_reference_ideal : Cert.quiescent_ReferenceIdeal := by
  intro m g _
  hlo_run
  · exact fun _ => ⟨trivial, trivial⟩
  · exact sem_eq_zero_of_no_sems (by decide) _

/-- Over the extended reals the tiled copy returns what the identity returns. -/
theorem algebraic : Cert.algebraic_KernelIdeal_ReferenceIdeal := by
  pair_intro
  · run_from TiledIdeal.run m g
  · hlo_run

/-- Word for word the tiled copy returns what the identity returns. -/
theorem bitexact : Cert.bitexact_Kernel_Reference := by
  pair_intro
  · run_from Tiled.run m g
  · hlo_run

/-- All the claims together. -/
theorem claim : Cert.Claim :=
  ⟨Cert.Kernel.Gen.facts, Cert.KernelIdeal.Gen.facts, Cert.Reference.Gen.facts, Cert.ReferenceIdeal.Gen.facts,
    fun m ρ _ => Cert.Kernel.Gen.frame m ρ, fun m ρ _ => Cert.KernelIdeal.Gen.frame m ρ,
    frame_reference, frame_reference_ideal, trivial, algebraic, bitexact⟩

end Cert.Proof

end
